-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pooling_projectors [hPre_pooling_projectors : Cert.Pre_pooling_projectors.Facts] (m : (ℓ : Loc Cert.KernelIdeal.nD Cert.KernelIdeal.τ Cert.KernelIdeal.sig) → Buf (Elt Ideal) ℓ) : Prop :=
  ∀ c : Dev Cert.KernelIdeal.nD,
    (Cert.Pre_pooling_projectors.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pooling_projectors [hPre_pooling_projectors : Cert.Pre_pooling_projectors.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pooling_projectors.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_pooling_projectors [hKernelIdeal : Cert.KernelIdeal.Facts] [hPre_pooling_projectors : Cert.Pre_pooling_projectors.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pooling_projectors m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_pooling_projectors [hReferenceIdeal : Cert.ReferenceIdeal.Facts] [hPre_pooling_projectors : Cert.Pre_pooling_projectors.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pooling_projectors m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_pooling_projectors [hKernelIdeal : Cert.KernelIdeal.Facts] [hReferenceIdeal : Cert.ReferenceIdeal.Facts] [hPre_pooling_projectors : Cert.Pre_pooling_projectors.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pooling_projectors m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_pooling_projectors : Cert.Pre_pooling_projectors.Facts),
    quiescent_Kernel (hKernel := hKernel)
    ∧ quiescent_KernelIdeal (hKernelIdeal := hKernelIdeal)
    ∧ quiescent_KernelIdeal_pre_pooling_projectors (hKernelIdeal := hKernelIdeal) (hPre_pooling_projectors := hPre_pooling_projectors)
    ∧ quiescent_ReferenceIdeal (hReferenceIdeal := hReferenceIdeal)
    ∧ quiescent_ReferenceIdeal_pre_pooling_projectors (hReferenceIdeal := hReferenceIdeal) (hPre_pooling_projectors := hPre_pooling_projectors)
    ∧ preserves_Kernel_KernelIdeal
    ∧ algebraic_KernelIdeal_ReferenceIdeal_pre_pooling_projectors (hKernelIdeal := hKernelIdeal) (hReferenceIdeal := hReferenceIdeal) (hPre_pooling_projectors := hPre_pooling_projectors)
-- ==== Pre_pooling_projectors.lean ====
abbrev S16x1024x1024 : Shape := ⟨3, ![16, 1024, 1024]⟩
abbrev S81x256 : Shape := ⟨2, ![81, 256]⟩
abbrev S81x8x8x4 : Shape := ⟨4, ![81, 8, 8, 4]⟩
abbrev S_ : Shape := ⟨0, ![]⟩

class Facts : Prop where
  bcast_S_S81x8x8x4 : S_.BroadcastsInDim S81x8x8x4 (![] : Fin 0 → Fin S81x8x8x4.rank)
  natLt_1_32 : 1 < 32
  shapeCasts_S81x256_S81x8x8x4 : S81x256.ShapeCasts S81x8x8x4
  reducesTo_S81x8x8x4_S_d0_1_2_3 : S81x8x8x4.ReducesTo [0, 1, 2, 3] S_
  h_S_ : 0 < S_.numel

variable [Facts]

def fn_part2 {F : FTy → Type} [FloatOps F] (main_arg1 : IVec S81x256 32) (main_arg2 : IVec S81x256 1) (main_v0 : IVec S81x8x8x4 32) (main_v2 : IVec S81x8x8x4 32) (main_v3 : IVec S81x8x8x4 32) (main_v20 : IVec S81x8x8x4 32) (main_v24 : IVec S81x8x8x4 32) (main_v33 : IVec S81x8x8x4 1) (main_v36 : IVec S81x8x8x4 1) : IVec S_ 1 :=
  let main_v37 : IVec S81x8x8x4 1 := ori main_v33 main_v36
  let main_c_10 : IVec S_ 32 := constantI S_ 32 73#32
  let main_v38 : IVec S81x8x8x4 32 := broadcastInDim S81x8x8x4 ![] bcast_S_S81x8x8x4 main_c_10
  let main_v39 : IVec S81x8x8x4 32 := addi main_v38 main_v2
  let main_v40 : IVec S81x8x8x4 1 := cmpi .eq main_v0 main_v39
  let main_v41 : IVec S81x8x8x4 1 := ori main_v37 main_v40
  let main_v42 : IVec S81x8x8x4 1 := shapeCast S81x8x8x4 main_arg2 shapeCasts_S81x256_S81x8x8x4
  let main_v43 : IVec S81x8x8x4 1 := cmpi .eq main_v42 main_v41
  let main_v44 : IVec S81x8x8x4 32 := shapeCast S81x8x8x4 main_arg1 shapeCasts_S81x256_S81x8x8x4
  let main_c_11 : IVec S_ 32 := constantI S_ 32 16#32
  let main_v45 : IVec S81x8x8x4 32 := broadcastInDim S81x8x8x4 ![] bcast_S_S81x8x8x4 main_c_11
  let main_v46 : IVec S81x8x8x4 32 := muli main_v20 main_v45
  let main_v47 : IVec S81x8x8x4 32 := addi main_v46 main_v24
  let main_c_12 : IVec S_ 32 := constantI S_ 32 4#32
  let main_v48 : IVec S81x8x8x4 32 := broadcastInDim S81x8x8x4 ![] bcast_S_S81x8x8x4 main_c_12
  let main_v49 : IVec S81x8x8x4 32 := muli main_v47 main_v48
  let main_v50 : IVec S81x8x8x4 32 := addi main_v49 main_v3
  let main_v51 : IVec S81x8x8x4 1 := cmpi .eq main_v44 main_v50
  let main_v52 : IVec S81x8x8x4 1 := noti main_v41
  let main_v53 : IVec S81x8x8x4 1 := ori main_v51 main_v52
  let main_v54 : IVec S81x8x8x4 1 := andi main_v43 main_v53
  let main_c_13 : IVec S_ 1 := constantI S_ 1 1#1
  let main_v55 : IVec S_ 1 := (fun x v => Host.reduce IntOp.andi x v reducesTo_S81x8x8x4_S_d0_1_2_3 h_S_) main_v54 main_c_13
  main_v55

def fn_part1 {F : FTy → Type} [FloatOps F] (main_arg1 : IVec S81x256 32) (main_arg2 : IVec S81x256 1) (main_v0 : IVec S81x8x8x4 32) (main_v1 : IVec S81x8x8x4 32) (main_v2 : IVec S81x8x8x4 32) (main_v3 : IVec S81x8x8x4 32) (main_v8 : IVec S81x8x8x4 1) (main_v16 : IVec S81x8x8x4 1) (main_v17 : IVec S81x8x8x4 32) : IVec S_ 1 :=
  let main_v18 : IVec S81x8x8x4 32 := muli main_v17 main_v1
  let main_v19 : IVec S81x8x8x4 32 := (extui 32 · natLt_1_32) main_v8
  let main_v20 : IVec S81x8x8x4 32 := addi main_v18 main_v19
  let main_c_5 : IVec S_ 32 := constantI S_ 32 2#32
  let main_v21 : IVec S81x8x8x4 32 := broadcastInDim S81x8x8x4 ![] bcast_S_S81x8x8x4 main_c_5
  let main_v22 : IVec S81x8x8x4 32 := muli main_v21 main_v2
  let main_v23 : IVec S81x8x8x4 32 := (extui 32 · natLt_1_32) main_v16
  let main_v24 : IVec S81x8x8x4 32 := addi main_v22 main_v23
  let main_c_6 : IVec S_ 32 := constantI S_ 32 0#32
  let main_v25 : IVec S81x8x8x4 32 := broadcastInDim S81x8x8x4 ![] bcast_S_S81x8x8x4 main_c_6
  let main_v26 : IVec S81x8x8x4 1 := cmpi .eq main_v0 main_v25
  let main_c_7 : IVec S_ 32 := constantI S_ 32 8#32
  let main_v27 : IVec S81x8x8x4 32 := broadcastInDim S81x8x8x4 ![] bcast_S_S81x8x8x4 main_c_7
  let main_v28 : IVec S81x8x8x4 32 := muli main_v27 main_v1
  let main_c_8 : IVec S_ 32 := constantI S_ 32 1#32
  let main_v29 : IVec S81x8x8x4 32 := broadcastInDim S81x8x8x4 ![] bcast_S_S81x8x8x4 main_c_8
  let main_v30 : IVec S81x8x8x4 32 := addi main_v29 main_v28
  let main_v31 : IVec S81x8x8x4 32 := addi main_v30 main_v2
  let main_v32 : IVec S81x8x8x4 1 := cmpi .eq main_v0 main_v31
  let main_v33 : IVec S81x8x8x4 1 := ori main_v26 main_v32
  let main_c_9 : IVec S_ 32 := constantI S_ 32 65#32
  let main_v34 : IVec S81x8x8x4 32 := broadcastInDim S81x8x8x4 ![] bcast_S_S81x8x8x4 main_c_9
  let main_v35 : IVec S81x8x8x4 32 := addi main_v34 main_v1
  let main_v36 : IVec S81x8x8x4 1 := cmpi .eq main_v0 main_v35
  fn_part2 (F := F) main_arg1 main_arg2 main_v0 main_v2 main_v3 main_v20 main_v24 main_v33 main_v36

def fn {F : FTy → Type} [FloatOps F] (main_arg0 : FVec F S16x1024x1024 .f32) (main_arg1 : IVec S81x256 32) (main_arg2 : IVec S81x256 1) : IVec S_ 1 :=
  let main_v0 : IVec S81x8x8x4 32 := iotaInDim S81x8x8x4 32 0
  let main_v1 : IVec S81x8x8x4 32 := iotaInDim S81x8x8x4 32 1
  let main_v2 : IVec S81x8x8x4 32 := iotaInDim S81x8x8x4 32 2
  let main_v3 : IVec S81x8x8x4 32 := iotaInDim S81x8x8x4 32 3
  let main_c : IVec S_ 32 := constantI S_ 32 0#32
  let main_v4 : IVec S81x8x8x4 32 := broadcastInDim S81x8x8x4 ![] bcast_S_S81x8x8x4 main_c
  let main_v5 : IVec S81x8x8x4 1 := cmpi .eq main_v0 main_v4
  let main_c_0 : IVec S_ 32 := constantI S_ 32 73#32
  let main_v6 : IVec S81x8x8x4 32 := broadcastInDim S81x8x8x4 ![] bcast_S_S81x8x8x4 main_c_0
  let main_v7 : IVec S81x8x8x4 1 := cmpi .sge main_v0 main_v6
  let main_v8 : IVec S81x8x8x4 1 := ori main_v5 main_v7
  let main_c_1 : IVec S_ 32 := constantI S_ 32 0#32
  let main_v9 : IVec S81x8x8x4 32 := broadcastInDim S81x8x8x4 ![] bcast_S_S81x8x8x4 main_c_1
  let main_v10 : IVec S81x8x8x4 1 := cmpi .eq main_v0 main_v9
  let main_c_2 : IVec S_ 32 := constantI S_ 32 65#32
  let main_v11 : IVec S81x8x8x4 32 := broadcastInDim S81x8x8x4 ![] bcast_S_S81x8x8x4 main_c_2
  let main_v12 : IVec S81x8x8x4 1 := cmpi .sge main_v0 main_v11
  let main_c_3 : IVec S_ 32 := constantI S_ 32 73#32
  let main_v13 : IVec S81x8x8x4 32 := broadcastInDim S81x8x8x4 ![] bcast_S_S81x8x8x4 main_c_3
  let main_v14 : IVec S81x8x8x4 1 := cmpi .slt main_v0 main_v13
  let main_v15 : IVec S81x8x8x4 1 := andi main_v12 main_v14
  let main_v16 : IVec S81x8x8x4 1 := ori main_v10 main_v15
  let main_c_4 : IVec S_ 32 := constantI S_ 32 2#32
  let main_v17 : IVec S81x8x8x4 32 := broadcastInDim S81x8x8x4 ![] bcast_S_S81x8x8x4 main_c_4
  fn_part1 (F := F) main_arg1 main_arg2 main_v0 main_v1 main_v2 main_v3 main_v8 main_v16 main_v17
-- ==== Kernel.lean ====
abbrev S16x1024x1024 : Shape := ⟨3, ![16, 1024, 1024]⟩
abbrev S81x256 : Shape := ⟨2, ![81, 256]⟩
abbrev S_ : Shape := ⟨0, ![]⟩
abbrev S1x256 : Shape := ⟨2, ![1, 256]⟩
abbrev S256 : Shape := ⟨1, ![256]⟩
abbrev S64x256 : Shape := ⟨2, ![64, 256]⟩
abbrev S8x256 : Shape := ⟨2, ![8, 256]⟩
abbrev S8 : Shape := ⟨1, ![8]⟩
abbrev S1x8x1 : Shape := ⟨3, ![1, 8, 1]⟩
abbrev S2x256 : Shape := ⟨2, ![2, 256]⟩
abbrev S2x8x32 : Shape := ⟨3, ![2, 8, 32]⟩
abbrev S2x8x1x32 : Shape := ⟨4, ![2, 8, 1, 32]⟩
abbrev S2x1x256 : Shape := ⟨3, ![2, 1, 256]⟩
abbrev S16x16x64x8x1x128 : Shape := ⟨6, ![16, 16, 64, 8, 1, 128]⟩
abbrev S16x8x32x32 : Shape := ⟨4, ![16, 8, 32, 32]⟩
abbrev S16x1x64x1x1x128 : Shape := ⟨6, ![16, 1, 64, 1, 1, 128]⟩
abbrev S2x1x1x32 : Shape := ⟨4, ![2, 1, 1, 32]⟩
abbrev S16x1x32x32 : Shape := ⟨4, ![16, 1, 32, 32]⟩
abbrev S16x64x128 : Shape := ⟨3, ![16, 64, 128]⟩
abbrev S128x32 : Shape := ⟨2, ![128, 32]⟩
abbrev S16x8x8x128 : Shape := ⟨4, ![16, 8, 8, 128]⟩
abbrev S16x8x4x128 : Shape := ⟨4, ![16, 8, 4, 128]⟩
abbrev S512x128 : Shape := ⟨2, ![512, 128]⟩
abbrev S1x1x1x32 : Shape := ⟨4, ![1, 1, 1, 32]⟩
abbrev S1x32 : Shape := ⟨2, ![1, 32]⟩
abbrev S512x32 : Shape := ⟨2, ![512, 32]⟩
abbrev S16x32x32 : Shape := ⟨3, ![16, 32, 32]⟩
abbrev S16x8x2x64x1024 : Shape := ⟨5, ![16, 8, 2, 64, 1024]⟩
abbrev S16x256x256 : Shape := ⟨3, ![16, 256, 256]⟩
abbrev S1x8x1x64x1024 : Shape := ⟨5, ![1, 8, 1, 64, 1024]⟩
abbrev S1x8x32x32 : Shape := ⟨4, ![1, 8, 32, 32]⟩
abbrev S1x256x256 : Shape := ⟨3, ![1, 256, 256]⟩
abbrev S8x64x1024 : Shape := ⟨3, ![8, 64, 1024]⟩
abbrev S256x256 : Shape := ⟨2, ![256, 256]⟩
abbrev S1024x256 : Shape := ⟨2, ![1024, 256]⟩
abbrev S8x8x8x1024 : Shape := ⟨4, ![8, 8, 8, 1024]⟩
abbrev S8x8x4x1024 : Shape := ⟨4, ![8, 8, 4, 1024]⟩
abbrev S256x1024 : Shape := ⟨2, ![256, 1024]⟩
abbrev S1x1x256 : Shape := ⟨3, ![1, 1, 256]⟩
abbrev S8x32x32 : Shape := ⟨3, ![8, 32, 32]⟩
abbrev S1x32x32 : Shape := ⟨3, ![1, 32, 32]⟩
abbrev S32x32 : Shape := ⟨2, ![32, 32]⟩

abbrev nBuf : Space → Nat
  | .hbm => 38
  | .vmem => 13
  | .smem => 0
  | _ => 0

abbrev bufTy : (tb : Table) → Fin (tcTables nBuf tb) → BufTy
  | .hbm, ⟨0, _⟩ => ⟨S16x1024x1024, .f32⟩
  | .hbm, ⟨1, _⟩ => ⟨S81x256, .i32⟩
  | .hbm, ⟨2, _⟩ => ⟨S81x256, .i1⟩
  | .hbm, ⟨3, _⟩ => ⟨S_, .i32⟩
  | .hbm, ⟨4, _⟩ => ⟨S_, .i32⟩
  | .hbm, ⟨5, _⟩ => ⟨S81x256, .i32⟩
  | .hbm, ⟨6, _⟩ => ⟨S81x256, .i32⟩
  | .hbm, ⟨7, _⟩ => ⟨S1x256, .i32⟩
  | .hbm, ⟨8, _⟩ => ⟨S256, .i32⟩
  | .hbm, ⟨9, _⟩ => ⟨S64x256, .i32⟩
  | .hbm, ⟨10, _⟩ => ⟨S_, .i32⟩
  | .hbm, ⟨11, _⟩ => ⟨S256, .i32⟩
  | .hbm, ⟨12, _⟩ => ⟨S8x256, .i32⟩
  | .hbm, ⟨13, _⟩ => ⟨S_, .i32⟩
  | .hbm, ⟨14, _⟩ => ⟨S256, .i32⟩
  | .hbm, ⟨15, _⟩ => ⟨S8x256, .i32⟩
  | .hbm, ⟨16, _⟩ => ⟨S_, .i32⟩
  | .hbm, ⟨17, _⟩ => ⟨S256, .i32⟩
  | .hbm, ⟨18, _⟩ => ⟨S8, .i32⟩
  | .hbm, ⟨19, _⟩ => ⟨S1x8x1, .i32⟩
  | .hbm, ⟨20, _⟩ => ⟨S_, .i32⟩
  | .hbm, ⟨21, _⟩ => ⟨S1x8x1, .i32⟩
  | .hbm, ⟨22, _⟩ => ⟨S1x8x1, .i32⟩
  | .hbm, ⟨23, _⟩ => ⟨S1x256, .i32⟩
  | .hbm, ⟨24, _⟩ => ⟨S1x256, .i32⟩
  | .hbm, ⟨25, _⟩ => ⟨S2x256, .i32⟩
  | .hbm, ⟨26, _⟩ => ⟨S2x8x32, .i32⟩
  | .hbm, ⟨27, _⟩ => ⟨S2x8x32, .i32⟩
  | .hbm, ⟨28, _⟩ => ⟨S2x8x32, .i32⟩
  | .hbm, ⟨29, _⟩ => ⟨S2x8x1x32, .i32⟩
  | .hbm, ⟨30, _⟩ => ⟨S1x256, .i32⟩
  | .hbm, ⟨31, _⟩ => ⟨S1x256, .i32⟩
  | .hbm, ⟨32, _⟩ => ⟨S2x256, .i32⟩
  | .hbm, ⟨33, _⟩ => ⟨S2x1x256, .i32⟩
  | .hbm, ⟨34, _⟩ => ⟨S16x16x64x8x1x128, .f32⟩
  | .hbm, ⟨35, _⟩ => ⟨S16x8x32x32, .f32⟩
  | .hbm, ⟨36, _⟩ => ⟨S16x8x2x64x1024, .f32⟩
  | .hbm, ⟨37, _⟩ => ⟨S16x256x256, .f32⟩
  | .local _ .vmem, ⟨0, _⟩ => ⟨S16x1x64x1x1x128, .f32⟩
  | .local _ .vmem, ⟨1, _⟩ => ⟨S16x1x64x1x1x128, .f32⟩
  | .local _ .vmem, ⟨2, _⟩ => ⟨S2x1x1x32, .i32⟩
  | .local _ .vmem, ⟨3, _⟩ => ⟨S2x1x1x32, .i32⟩
  | .local _ .vmem, ⟨4, _⟩ => ⟨S16x1x32x32, .f32⟩
  | .local _ .vmem, ⟨5, _⟩ => ⟨S16x1x32x32, .f32⟩
  | .local _ .vmem, ⟨6, _⟩ => ⟨S1x8x1x64x1024, .f32⟩
  | .local _ .vmem, ⟨7, _⟩ => ⟨S1x8x1x64x1024, .f32⟩
  | .local _ .vmem, ⟨8, _⟩ => ⟨S1x8x32x32, .f32⟩
  | .local _ .vmem, ⟨9, _⟩ => ⟨S1x8x32x32, .f32⟩
  | .local _ .vmem, ⟨10, _⟩ => ⟨S2x1x256, .i32⟩
  | .local _ .vmem, ⟨11, _⟩ => ⟨S1x256x256, .f32⟩
  | .local _ .vmem, ⟨12, _⟩ => ⟨S1x256x256, .f32⟩
  | _, _ => ⟨S16x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_call0_v1 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_v6 : Ref sig .tc := ⟨.hbm, 14, rfl⟩
abbrev main_v7 : Ref sig .tc := ⟨.hbm, 15, rfl⟩
abbrev main_c_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 6 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, v0.toNat, c0_i32_0.toNat, arg0.toNat, c0_i32_1.toNat, c0_i32_2.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S16x1x64x1x1x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1x1x32 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1x32x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

def cc1_transform_0 (i : grid1.Coords) : Fin 5 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![arg0.toNat, c0_i32.toNat, c1_i32.toNat, c0_i32_0.toNat, c0_i32_1.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x8x1x64x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x8x32x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S2x1x256 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x256x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== ReferenceIdeal.lean ====
abbrev S16x1024x1024 : Shape := ⟨3, ![16, 1024, 1024]⟩
abbrev S81x256 : Shape := ⟨2, ![81, 256]⟩
abbrev S_ : Shape := ⟨0, ![]⟩
abbrev S81x256x1 : Shape := ⟨3, ![81, 256, 1]⟩
abbrev S81x1x256 : Shape := ⟨3, ![81, 1, 256]⟩
abbrev S81x256x256 : Shape := ⟨3, ![81, 256, 256]⟩
abbrev S81x256x256x1 : Shape := ⟨4, ![81, 256, 256, 1]⟩
abbrev S81x256x256x2 : Shape := ⟨4, ![81, 256, 256, 2]⟩
abbrev S16x81x256x256 : Shape := ⟨4, ![16, 81, 256, 256]⟩
abbrev S1x81x256x256 : Shape := ⟨4, ![1, 81, 256, 256]⟩
abbrev S16x256x256 : Shape := ⟨3, ![16, 256, 256]⟩

abbrev nBuf : Space → Nat
  | .hbm => 41
  | .vmem => 0
  | .smem => 0
  | _ => 0

abbrev bufTy : (tb : Table) → Fin (tcTables nBuf tb) → BufTy
  | .hbm, ⟨0, _⟩ => ⟨S16x1024x1024, .f32⟩
  | .hbm, ⟨1, _⟩ => ⟨S81x256, .i32⟩
  | .hbm, ⟨2, _⟩ => ⟨S81x256, .i1⟩
  | .hbm, ⟨3, _⟩ => ⟨S_, .i32⟩
  | .hbm, ⟨4, _⟩ => ⟨S_, .i32⟩
  | .hbm, ⟨5, _⟩ => ⟨S81x256, .i32⟩
  | .hbm, ⟨6, _⟩ => ⟨S81x256, .i32⟩
  | .hbm, ⟨7, _⟩ => ⟨S81x256x1, .i32⟩
  | .hbm, ⟨8, _⟩ => ⟨S81x1x256, .i32⟩
  | .hbm, ⟨9, _⟩ => ⟨S_, .i32⟩
  | .hbm, ⟨10, _⟩ => ⟨S81x256x1, .i32⟩
  | .hbm, ⟨11, _⟩ => ⟨S81x256x1, .i1⟩
  | .hbm, ⟨12, _⟩ => ⟨S_, .i32⟩
  | .hbm, ⟨13, _⟩ => ⟨S81x256x1, .i32⟩
  | .hbm, ⟨14, _⟩ => ⟨S81x256x1, .i32⟩
  | .hbm, ⟨15, _⟩ => ⟨S81x256x1, .i32⟩
  | .hbm, ⟨16, _⟩ => ⟨S_, .i32⟩
  | .hbm, ⟨17, _⟩ => ⟨S81x1x256, .i32⟩
  | .hbm, ⟨18, _⟩ => ⟨S81x1x256, .i1⟩
  | .hbm, ⟨19, _⟩ => ⟨S_, .i32⟩
  | .hbm, ⟨20, _⟩ => ⟨S81x1x256, .i32⟩
  | .hbm, ⟨21, _⟩ => ⟨S81x1x256, .i32⟩
  | .hbm, ⟨22, _⟩ => ⟨S81x1x256, .i32⟩
  | .hbm, ⟨23, _⟩ => ⟨S81x256x256, .i32⟩
  | .hbm, ⟨24, _⟩ => ⟨S81x256x256, .i32⟩
  | .hbm, ⟨25, _⟩ => ⟨S81x256x256x1, .i32⟩
  | .hbm, ⟨26, _⟩ => ⟨S81x256x256x1, .i32⟩
  | .hbm, ⟨27, _⟩ => ⟨S81x256x256x2, .i32⟩
  | .hbm, ⟨28, _⟩ => ⟨S16x81x256x256, .f32⟩
  | .hbm, ⟨29, _⟩ => ⟨S81x256x1, .i1⟩
  | .hbm, ⟨30, _⟩ => ⟨S81x1x256, .i1⟩
  | .hbm, ⟨31, _⟩ => ⟨S81x256x256, .i1⟩
  | .hbm, ⟨32, _⟩ => ⟨S81x256x256, .i1⟩
  | .hbm, ⟨33, _⟩ => ⟨S81x256x256, .i1⟩
  | .hbm, ⟨34, _⟩ => ⟨S1x81x256x256, .i1⟩
  | .hbm, ⟨35, _⟩ => ⟨S_, .f32⟩
  | .hbm, ⟨36, _⟩ => ⟨S16x81x256x256, .i1⟩
  | .hbm, ⟨37, _⟩ => ⟨S16x81x256x256, .f32⟩
  | .hbm, ⟨38, _⟩ => ⟨S16x81x256x256, .f32⟩
  | .hbm, ⟨39, _⟩ => ⟨S_, .f32⟩
  | .hbm, ⟨40, _⟩ => ⟨S16x256x256, .f32⟩
  | _, _ => ⟨S16x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_call0_v1 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_2 : Ref sig .tc := ⟨.hbm, 16, rfl⟩
abbrev main_v8 : Ref sig .tc := ⟨.hbm, 17, rfl⟩
abbrev main_v9 : Ref sig .tc := ⟨.hbm, 18, rfl⟩
abbrev main_c_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst : Ref sig .tc := ⟨.hbm, 35, rfl⟩
abbrev main_call1_v0 : Ref sig .tc := ⟨.hbm, 36, rfl⟩
abbrev main_call1_v1 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Proof.Words.lean ====
/- The rows of the image that the projectors take, and two facts on words: what a mask bit selects, and what a
   one-hot row of selections sums to. -/
module

public import Idealize.ShloMosaic.Lib.Pointwise
public import Idealize.ShloMosaic.Lib.WordCmp

@[expose] public section

noncomputable section

namespace Cert.Hand

open Idealize.ShloMosaic

/-- The flat position of the image row that output row `p` takes in the subcell with row parity `r` and column parity
    `c`. Output row `p` stands for the pooled cell `(p / 32, p / 4 % 8)` and the component `p % 4`; the pooled cell
    covers the image cells with rows `2 * (p / 32) + r` and columns `2 * (p / 4 % 8) + c`. -/
def rowOf (r c : Fin 2) (p : Fin 256) : Fin 1024 :=
  ⟨128 * (p.val / 32) + 64 * r.val + 8 * (p.val / 4 % 8) + 4 * c.val + p.val % 4, by omega⟩

/-- What the kernel computes, as one formula in the image: entry `(p, q)` of image `b` is the sum of the four
    subcells' entries, the ones of even column parity only where `p` and `q` have the same pooled column, the ones of
    even row parity only where they have the same pooled row. -/
def pooled (A : (⟨3, ![16, 1024, 1024]⟩ : Shape).Idx → EReal) (b : Fin 16) (p q : Fin 256) : EReal :=
  let entry := fun r c : Fin 2 => A (ix3 b (rowOf r c p) (rowOf r c q))
  let outer := entry 1 1 + if p.val / 4 % 8 = q.val / 4 % 8 then entry 1 0 else 0
  if p.val / 32 = q.val / 32 then outer + ((if p.val / 4 % 8 = q.val / 4 % 8 then entry 0 0 else 0) + entry 0 1)
  else outer

/-- A value selected over zero by the bit of a proposition is the value where the proposition holds. -/
theorem select_bit {w : BitVec 1} {P : Prop} [Decidable P] (h : w = BitVec.ofBool (decide P)) (x : EReal) :
    Scalar.select w x 0 = if P then x else 0 := by
  subst h
  by_cases hP : P <;> simp [Scalar.select, hP]

/-- The numerals below `n` compared with the word of `k` select exactly the `k`-th value: their sum is that value. -/
theorem sum_select_eq {n : ℕ} (hn : n ≤ 2 ^ 32) {w : BitVec 32} (k : Fin n) (hw : w = BitVec.ofNat 32 k.val)
    (f : Fin n → EReal) :
    ∑ x : Fin n, Scalar.select (IntOp.cmpi CmpIPredicate.eq (BitVec.ofNat 32 x.val) w) (f x) 0 = f k := by
  subst hw
  rw [Finset.sum_eq_single k]
  · simp [Scalar.select, IntOp.cmpi]
  · intro x _ hx
    have : BitVec.ofNat 32 x.val ≠ BitVec.ofNat 32 k.val := by
      intro h
      have h' := congrArg BitVec.toNat h
      simp only [BitVec.toNat_ofNat] at h'
      rw [Nat.mod_eq_of_lt (by omega), Nat.mod_eq_of_lt (by omega)] at h'
      exact hx (Fin.ext h')
    simp [Scalar.select, IntOp.cmpi, beq_eq_false_iff_ne.mpr this]
  · intro h; exact absurd (Finset.mem_univ k) h

end Cert.Hand

end
-- ==== Proof.Table.lean ====
/- The table of projectors that the precondition describes, in plain numbers: for each projector and each output row,
   whether the projector takes an image row there, and which one. -/
module

public import proofs.«01_k».proof.Proof.Words

@[expose] public section

noncomputable section

namespace Cert.Hand

open Idealize.ShloMosaic

/-- Whether projector `k` takes an image row for output row `p`: projector 0 always; projectors 1 to 64 at one pooled
    cell each; projectors 65 to 72 along one pooled row each; projectors 73 to 80 along one pooled column each. -/
abbrev On (k : Fin 81) (p : Fin 256) : Prop :=
  k.val = 0 ∨ k.val = 1 + p.val / 4 ∨ k.val = 65 + p.val / 32 ∨ k.val = 73 + p.val / 4 % 8

/-- The image row that projector `k` takes for output row `p`. -/
def colOf (k : Fin 81) (p : Fin 256) : Fin 1024 :=
  rowOf (if k.val = 0 ∨ 73 ≤ k.val then 1 else 0) (if k.val = 0 ∨ (65 ≤ k.val ∧ k.val < 73) then 1 else 0) p

/-- The two argument arrays hold that table: the mask says where a projector takes a row, and the column array says
    which row, wherever the mask is set. -/
def Projects (cols : IVec ⟨2, ![81, 256]⟩ 32) (mask : IVec ⟨2, ![81, 256]⟩ 1) : Prop :=
  ∀ k p, mask (ix2 k p) = BitVec.ofBool (decide (On k p))
    ∧ (On k p → cols (ix2 k p) = BitVec.ofNat 32 (colOf k p).val)

/-- The column array with zeros where the mask is not set. -/
theorem safe_word {cols : IVec ⟨2, ![81, 256]⟩ 32} {mask : IVec ⟨2, ![81, 256]⟩ 1} (h : Projects cols mask)
    (k : Fin 81) (p : Fin 256) :
    Scalar.select (mask (ix2 k p)) (cols (ix2 k p)) 0#32
      = BitVec.ofNat 32 (if On k p then (colOf k p).val else 0) := by
  obtain ⟨hm, hc⟩ := h k p
  rw [hm]
  by_cases ho : On k p
  · rw [hc ho, if_pos ho, decide_eq_true ho]; rfl
  · rw [if_neg ho, decide_eq_false ho]; rfl

/-- A wrapping sum of words all but one of which are zero is that one. -/
theorem fold_addi_single {n : ℕ} (f : Fin n → BitVec 32) (k : Fin n) (h : ∀ x, x ≠ k → f x = 0#32) :
    Finset.univ.fold IntOp.addi 0#32 f = f k := by
  have z : ∀ s : Finset (Fin n), k ∉ s → s.fold IntOp.addi 0#32 f = 0#32 := by
    intro s
    induction s using Finset.induction_on with
    | empty => intro _; rfl
    | insert a s ha ih =>
      intro hk
      rw [Finset.mem_insert, not_or] at hk
      rw [Finset.fold_insert ha, ih hk.2, h a (Ne.symm hk.1)]
      rfl
  rw [← Finset.insert_erase (Finset.mem_univ k), Finset.fold_insert (Finset.notMem_erase k _),
    z _ (Finset.notMem_erase k _)]
  simp [IntOp.addi]

end Cert.Hand

end
-- ==== Proof.Pre.lean ====
/- What the precondition says of the two argument arrays: they hold the table of projectors. -/
module

public import proofs.«01_k».proof.Pre_pooling_projectors
public import proofs.«01_k».proof.Proof.Table
public import Idealize.ShloMosaic.Lib.ReduceAll
public import Idealize.ShloMosaic.Lib.Affine

@[expose] public section

set_option maxRecDepth 16384

noncomputable section

namespace Cert.Hand

open Cert.Pre_pooling_projectors Idealize.ShloMosaic

/-- The precondition's side conditions hold. -/
instance preFacts : Cert.Pre_pooling_projectors.Facts where
  bcast_S_S81x8x8x4 := by decide
  natLt_1_32 := by decide
  shapeCasts_S81x256_S81x8x8x4 := by decide
  reducesTo_S81x8x8x4_S_d0_1_2_3 := by decide
  h_S_ := by decide

/-- The bit that the precondition computes for projector `k` at pooled cell `(i, j)`. -/
abbrev onWord (k : Fin 81) (i j : Fin 8) : BitVec 1 :=
  IntOp.ori
    (IntOp.ori
      (IntOp.ori (IntOp.cmpi .eq (BitVec.ofNat 32 k.val) 0#32)
        (IntOp.cmpi .eq (BitVec.ofNat 32 k.val)
          (IntOp.addi (IntOp.addi 1#32 (IntOp.muli 8#32 (BitVec.ofNat 32 i.val))) (BitVec.ofNat 32 j.val))))
      (IntOp.cmpi .eq (BitVec.ofNat 32 k.val) (IntOp.addi 65#32 (BitVec.ofNat 32 i.val))))
    (IntOp.cmpi .eq (BitVec.ofNat 32 k.val) (IntOp.addi 73#32 (BitVec.ofNat 32 j.val)))

/-- The column number that the precondition computes for projector `k` at pooled cell `(i, j)` and component `l`. -/
abbrev colWord (k : Fin 81) (i j : Fin 8) (l : Fin 4) : BitVec 32 :=
  IntOp.addi
    (IntOp.muli
      (IntOp.addi
        (IntOp.muli
          (IntOp.addi (IntOp.muli 2#32 (BitVec.ofNat 32 i.val))
            (BitVec.setWidth 32
              (IntOp.ori (IntOp.cmpi .eq (BitVec.ofNat 32 k.val) 0#32)
                (IntOp.cmpi .sge (BitVec.ofNat 32 k.val) 73#32))))
          16#32)
        (IntOp.addi (IntOp.muli 2#32 (BitVec.ofNat 32 j.val))
          (BitVec.setWidth 32
            (IntOp.ori (IntOp.cmpi .eq (BitVec.ofNat 32 k.val) 0#32)
              (IntOp.andi (IntOp.cmpi .sge (BitVec.ofNat 32 k.val) 65#32)
                (IntOp.cmpi .slt (BitVec.ofNat 32 k.val) 73#32))))))
      4#32)
    (BitVec.ofNat 32 l.val)

/-- That bit, in plain numbers. -/
theorem onWord_eq : ∀ (k : Fin 81) (i j : Fin 8), onWord k i j = BitVec.ofBool (decide
    (k.val = 0 ∨ k.val = 1 + (8 * i.val + j.val) ∨ k.val = 65 + i.val ∨ k.val = 73 + j.val)) := by
  decide +kernel

/-- That column number, in plain numbers. -/
theorem colWord_eq : ∀ (k : Fin 81) (i j : Fin 8) (l : Fin 4), colWord k i j l = BitVec.ofNat 32
    (128 * i.val + 64 * (if k.val = 0 ∨ 73 ≤ k.val then 1 else 0) + 8 * j.val
      + 4 * (if k.val = 0 ∨ (65 ≤ k.val ∧ k.val < 73) then 1 else 0) + l.val) := by
  decide +kernel

/-- The bit that the precondition asks to be set at one place: the mask is as it should be, and so is the column
    number where the mask is set. -/
theorem split_bit {a o : BitVec 1} {x y : BitVec 32}
    (h : IntOp.andi (IntOp.cmpi .eq a o) (IntOp.ori (IntOp.cmpi .eq x y) (~~~o)) = 1#1) :
    a = o ∧ (o = 1#1 → x = y) := by
  obtain ⟨h1, h2⟩ := IntOp.andi_eq_one.mp h
  refine ⟨IntOp.cmpi_eq.mp h1, fun ho => ?_⟩
  subst ho
  rcases IntOp.ori_eq_one.mp h2 with h3 | h3
  · exact IntOp.cmpi_eq.mp h3
  · exact absurd h3 (by decide)

/-- Arguments that meet the precondition hold the table of projectors. -/
theorem projects (A : FVec Ideal S16x1024x1024 .f32) (cols : IVec S81x256 32) (mask : IVec S81x256 1)
    (h : fn A cols mask = fun _ => 1#1) : Projects cols mask := by
  intro k p
  have e := congrFun h ix0
  dsimp only [fn, fn_part1, fn_part2] at e
  replace e := Host.reduce_andi_all _ _ _ _ _ e
    (ix4 k ⟨p.val / 32, by omega⟩ ⟨p.val / 4 % 8, by omega⟩ ⟨p.val % 4, by omega⟩)
  pointwise at e
  obtain ⟨em, ec⟩ := split_bit e
  have ho : onWord k ⟨p.val / 32, by omega⟩ ⟨p.val / 4 % 8, by omega⟩ = BitVec.ofBool (decide (On k p)) := by
    rw [onWord_eq]
    refine congrArg BitVec.ofBool (decide_eq_decide.mpr ?_)
    simp only [On]
    omega
  refine ⟨em.trans ho, fun hon => ?_⟩
  refine (ec (ho.trans (by rw [decide_eq_true hon]; rfl))).trans ?_
  refine (colWord_eq k ⟨p.val / 32, by omega⟩ ⟨p.val / 4 % 8, by omega⟩ ⟨p.val % 4, by omega⟩).trans ?_
  unfold colOf rowOf
  congr 1
  split <;> split <;> simp

end Cert.Hand

end
-- ==== Proof.Blocks.lean ====
/- What each of the two launches stores in its output block, read at an index, given the words of the column
   numbers that it compares the lanes with. -/
module

public import proofs.«01_k».proof.Proof.Gen.KernelIdeal.Frame
public import proofs.«01_k».proof.Proof.Words
public import Idealize.ShloMosaic.Lib.Pipeline.ValueKit
public import Idealize.ShloMosaic.Lib.Pipeline.ReadBack

@[expose] public section

set_option maxRecDepth 16384

noncomputable section

namespace Cert.Hand

open Cert.KernelIdeal Cert.KernelIdeal.Gen Idealize.ShloMosaic Idealize.ShloMosaic.TcCoe Idealize.SL.Sem

/-- Row `r` of the first launch's 512 rows stands for the pooled column `r % 32 / 4`. -/
theorem diag_row_word (r : Fin 512) (n : Fin 32) :
    k0_pay8 (Scalar.select (Scalar.cmpi .eq 32#32 0#32) 1#32 32#32) k0_pay5 k0_pay6 k0_pay7 (ix2 r n)
      = BitVec.ofNat 32 (r.val % 32 / 4) := by
  pointwise [k0_pay5, k0_pay6, k0_pay7, k0_pay8]
  revert r; decide +kernel

/-- The first launch's block at a point: the entry of even column parity where `m` and `n` have the same pooled column,
    plus the entry of odd column parity. -/
theorem diag_block (x0 : Vec Ideal S16x1x64x1x1x128 .f32) (x1 : Vec Ideal S2x1x1x32 .i32)
    (h0 : ∀ n : Fin 32, x1 (ix4 0 0 0 n) = BitVec.ofNat 32 (8 * (n.val / 4) + n.val % 4))
    (h1 : ∀ n : Fin 32, x1 (ix4 1 0 0 n) = BitVec.ofNat 32 (8 * (n.val / 4) + 4 + n.val % 4))
    (b : Fin 16) (m n : Fin 32) :
    out0_2 x0 x1 (ix4 b 0 m n)
      = (if m.val / 4 = n.val / 4 then
          x0 (ix6 b 0 ⟨8 * (m.val / 4) + m.val % 4, by omega⟩ 0 0 ⟨8 * (n.val / 4) + n.val % 4, by omega⟩) else 0)
        + x0 (ix6 b 0 ⟨8 * (m.val / 4) + 4 + m.val % 4, by omega⟩ 0 0 ⟨8 * (n.val / 4) + 4 + n.val % 4, by omega⟩) := by
  unfold_out out0_2
  frame_out
  pointwise [k0_pay1, k0_pay2, k0_pay3, k0_pay4, k0_pay9, k0_pay10]
  rw [sum_select_eq (by decide) ⟨8 * (n.val / 4) + n.val % 4, by omega⟩ (h0 n),
    sum_select_eq (by decide) ⟨8 * (n.val / 4) + 4 + n.val % 4, by omega⟩ (h1 n), diag_row_word]
  refine congrArg₂ (· + ·) ((select_bit (P := m.val / 4 = n.val / 4) ?_ _).trans ?_) ?_
  · have e : (b.val * 32 + m.val) % 32 / 4 = m.val / 4 := by omega
    obtain ⟨k, hk⟩ : ∃ k : Fin 8, k.val = m.val / 4 := ⟨⟨m.val / 4, by omega⟩, rfl⟩
    simp only [e, ← hk]
    clear hk e h0 h1
    revert k n; decide +kernel
  · congr 3
    exact Fin.mk.inj_iff.mpr (by omega)
  · congr 2
    exact Fin.mk.inj_iff.mpr (by omega)

/-- Entry `(p, q)` stands for the pooled column `p / 4 % 8` of its row number. -/
theorem main_row_word (p q : Fin 256) : k1_pay6 (ix2 p q) = BitVec.ofNat 32 (p.val / 4 % 8) := by
  pointwise [k1_pay6]
  revert p; decide +kernel

/-- The row's pooled column is not negative, so the remainder is not corrected. -/
theorem main_row_bit (p q : Fin 256) : k1_pay7 (ix2 p q) = 0#1 := by
  pointwise [k1_pay7]
  rw [main_row_word]
  obtain ⟨k, hk⟩ : ∃ k : Fin 8, k.val = p.val / 4 % 8 := ⟨⟨p.val / 4 % 8, by omega⟩, rfl⟩
  rw [← hk]
  clear hk
  revert k; decide +kernel

/-- The second launch's mask: the bit at `(p, q)` says that `p` and `q` have the same pooled column. -/
theorem main_mask (p q : Fin 256) :
    k1_pay8 (iota Kind.tc S256x256 32 [1] iota_S256x256_d1_w32) 8#32 k1_pay6 k1_pay7 (ix2 p q)
      = BitVec.ofBool (decide (p.val / 4 % 8 = q.val / 4 % 8)) := by
  pointwise [k1_pay8]
  rw [main_row_word, main_row_bit]
  obtain ⟨k, hk⟩ : ∃ k : Fin 8, k.val = p.val / 4 % 8 := ⟨⟨p.val / 4 % 8, by omega⟩, rfl⟩
  rw [← hk]
  clear hk
  revert k q; decide +kernel

/-- What the second launch stores first: the entry of both parities odd, plus the entry of odd row parity and even
    column parity where `p` and `q` have the same pooled column. -/
def mainOuter (x0 : Vec Ideal S1x8x1x64x1024 .f32) (p q : Fin 256) : EReal :=
  x0 (ix5 0 ⟨p.val / 32, by omega⟩ 0 ⟨8 * (p.val / 4 % 8) + 4 + p.val % 4, by omega⟩ (rowOf 1 1 q))
    + if p.val / 4 % 8 = q.val / 4 % 8 then
        x0 (ix5 0 ⟨p.val / 32, by omega⟩ 0 ⟨8 * (p.val / 4 % 8) + p.val % 4, by omega⟩ (rowOf 1 0 q)) else 0

/-- The contents of the second launch's first store are `mainOuter`. -/
theorem main_outer (x0 : Vec Ideal S1x8x1x64x1024 .f32) (x2 : Vec Ideal S2x1x256 .i32)
    (h0 : ∀ q : Fin 256, x2 (ix3 0 0 q) = BitVec.ofNat 32 (rowOf 1 1 q).val)
    (h1 : ∀ q : Fin 256, x2 (ix3 1 0 q) = BitVec.ofNat 32 (rowOf 1 0 q).val) (y : S1x256x256.Idx) :
    k1_pay10 (k1_pay5 x0) (k1_pay8 (iota Kind.tc S256x256 32 [1] iota_S256x256_d1_w32) 8#32 k1_pay6 k1_pay7)
        (iota Kind.tc S1024x256 32 [0] iota_S1024x256_d0_w32) (k1_pay9 (k1_pay5 x0))
        (View.ld x2 (Rect.unit ![0, 0, 0] ![1, 1, 256] inb_S2x1x256_S1x1x256_0_0_0))
        (View.ld x2 (Rect.unit ![1, 0, 0] ![1, 1, 256] inb_S2x1x256_S1x1x256_1_0_0)) y
      = mainOuter x0 (y 1) (y 2) := by
  idx_vars y
  pointwise [k1_pay10, k1_pay5, k1_pay9]
  rw [sum_select_eq (by decide) (rowOf 1 1 y2) (h0 y2), sum_select_eq (by decide) (rowOf 1 0 y2) (h1 y2),
    select_bit (main_mask y1 y2)]
  unfold mainOuter
  simp only [show y1.val / 4 % 8 * 8 + (4 + y1.val % 4) = 8 * (y1.val / 4 % 8) + 4 + y1.val % 4 by omega,
    show y1.val / 4 % 8 * 8 + y1.val % 4 = 8 * (y1.val / 4 % 8) + y1.val % 4 by omega]

/-- Stores of blocks of `G` over earlier stores leave `G` where one of the blocks lies, and the earlier stores'
    contents elsewhere. -/
theorem canon_blocks_over {s : Shape} {e : EltTy} (G : s.Idx → Elt Ideal e)
    (L' L : List (View.Piece (Elt Ideal) s e)) (h : View.PiecesOf G L) (y : s.Idx)
    (h' : (∀ p ∈ L, y ∉ p.1.set) → View.canon L' y = G y) : View.canon (L ++ L') y = G y := by
  by_cases hc : ∃ p ∈ L, y ∈ p.1.set
  · exact View.canon_append_of_piecesOf G L' L h y hc
  · have hn : ∀ p ∈ L, y ∉ p.1.set := fun p hp hy => hc ⟨p, hp, hy⟩
    rw [← h' hn]
    clear h h' hc
    induction L with
    | nil => rfl
    | cons p L ih =>
      rw [List.cons_append, View.canon_cons_of_not_mem p _ (hn p List.mem_cons_self)]
      exact ih fun p' hp' => hn p' (List.mem_cons_of_mem _ hp')

/-- What the second launch leaves at entry `(p, q)` of its block: `mainOuter`, plus the first launch's entry where `p` and
    `q` have the same pooled row. -/
def mainInner (x0 : Vec Ideal S1x8x1x64x1024 .f32) (x1 : Vec Ideal S1x8x32x32 .f32) (p q : Fin 256) : EReal :=
  if p.val / 32 = q.val / 32 then
    mainOuter x0 p q + x1 (ix4 0 ⟨p.val / 32, by omega⟩ ⟨p.val % 32, by omega⟩ ⟨q.val % 32, by omega⟩)
  else mainOuter x0 p q

/-- `mainInner` at an entry of diagonal block `k`. -/
theorem mainInner_diag (x0 : Vec Ideal S1x8x1x64x1024 .f32) (x1 : Vec Ideal S1x8x32x32 .f32) (k : Fin 8) (u v : Fin 32)
    {p q p' q' : Fin 256} (hp : p.val = 32 * k.val + u.val) (hq : q.val = 32 * k.val + v.val)
    (hp' : p'.val = p.val) (hq' : q'.val = q.val) :
    mainOuter x0 p q + x1 (ix4 0 k u v) = mainInner x0 x1 p' q' := by
  obtain rfl := Fin.ext hp'
  obtain rfl := Fin.ext hq'
  have e1 : p'.val / 32 = k.val := by omega
  have e2 : q'.val / 32 = k.val := by omega
  have e3 : p'.val % 32 = u.val := by omega
  have e4 : q'.val % 32 = v.val := by omega
  simp only [mainInner, e1, e2, e3, e4, if_true]

/-- An entry outside the block of 32 by 32 at `(o, o)` has its row or its column number outside. -/
theorem not_mem_diag {y : S1x256x256.Idx} {o : ℕ} {inb}
    (h : y ∉ (Rect.unit (s := S1x256x256) ![0, o, o] ![1, 32, 32] inb).set) :
    ¬ (o ≤ (y 1).val ∧ (y 1).val < o + 32 ∧ o ≤ (y 2).val ∧ (y 2).val < o + 32) := by
  intro ⟨a, b, c, d⟩
  refine h (Rect.mem_set_unit.mpr fun k => ?_)
  match k with
  | ⟨0, _⟩ => exact ⟨Nat.zero_le _, by have : (y 0).val < 1 := (y 0).isLt; exact this⟩
  | ⟨1, _⟩ => exact ⟨a, b⟩
  | ⟨2, _⟩ => exact ⟨c, d⟩

/-- The second launch's block at a point is `mainInner`: its eight diagonal blocks are loaded from the first store, added
    to and stored back, and no other entry changes. -/
theorem main_block (c : Dev nD) (i : grid1.Coords) (arg1 : Memref sig .tc .vmem S1x8x1x64x1024 .f32) (harg1 : arg1.IsWhole) (arg2 : Memref sig .tc .vmem S1x8x32x32 .f32) (harg2 : arg2.IsWhole) (arg3 : Memref sig .tc .vmem S2x1x256 .i32) (harg3 : arg3.IsWhole) (arg4 : Memref sig .tc .vmem S1x256x256 .f32) (harg4 : arg4.IsWhole)
    (x0 : Vec Ideal S1x8x1x64x1024 .f32) (x1 : Vec Ideal S1x8x32x32 .f32) (x2 : Vec Ideal S2x1x256 .i32)
    (h0 : ∀ q : Fin 256, x2 (ix3 0 0 q) = BitVec.ofNat 32 (rowOf 1 1 q).val)
    (h1 : ∀ q : Fin 256, x2 (ix3 1 0 q) = BitVec.ofNat 32 (rowOf 1 0 q).val) (y : S1x256x256.Idx) :
    out1_A_3 c i arg1 harg1 arg2 harg2 arg3 harg3 arg4 harg4 x0 x1 x2 y = mainInner x0 x1 (y 1) (y 2) := by
  frame_open
  simp (disch := decide) only [↓ View.readCov_skip, ↓ View.readCov_cons_toLoadRect, ↓ View.readCov_fill]
  frame_out
  rw [show k1_pay10 (k1_pay5 x0) (k1_pay8 (iota Kind.tc S256x256 32 [1] iota_S256x256_d1_w32) 8#32 k1_pay6 k1_pay7)
        (iota Kind.tc S1024x256 32 [0] iota_S1024x256_d0_w32) (k1_pay9 (k1_pay5 x0))
        (View.ld x2 (Rect.unit ![0, 0, 0] ![1, 1, 256] inb_S2x1x256_S1x1x256_0_0_0))
        (View.ld x2 (Rect.unit ![1, 0, 0] ![1, 1, 256] inb_S2x1x256_S1x1x256_1_0_0))
      = (fun y => mainOuter x0 (y 1) (y 2) : Vec Ideal S1x256x256 .f32) from funext (main_outer x0 x2 h0 h1)]
  refine canon_blocks_over (e := .f32) (fun y => mainInner x0 x1 (y 1) (y 2) : Vec Ideal S1x256x256 .f32) [_] [_, _, _, _, _, _, _, _]
    ⟨?_, ?_, ?_, ?_, ?_, ?_, ?_, ?_, trivial⟩ y ?_
  case refine_9 =>
    intro hn
    simp only [List.forall_mem_cons] at hn
    obtain ⟨g7, g6, g5, g4, g3, g2, g1, g0, -⟩ := hn
    replace g0 := not_mem_diag (inb := inb_S1x256x256_S1x32x32_0_0_0) g0
    replace g1 := not_mem_diag (inb := inb_S1x256x256_S1x32x32_0_32_32) g1
    replace g2 := not_mem_diag (inb := inb_S1x256x256_S1x32x32_0_64_64) g2
    replace g3 := not_mem_diag (inb := inb_S1x256x256_S1x32x32_0_96_96) g3
    replace g4 := not_mem_diag (inb := inb_S1x256x256_S1x32x32_0_128_128) g4
    replace g5 := not_mem_diag (inb := inb_S1x256x256_S1x32x32_0_160_160) g5
    replace g6 := not_mem_diag (inb := inb_S1x256x256_S1x32x32_0_192_192) g6
    replace g7 := not_mem_diag (inb := inb_S1x256x256_S1x32x32_0_224_224) g7
    have hy1 : (y 1).val < 256 := (y 1).isLt
    have hy2 : (y 2).val < 256 := (y 2).isLt
    have e : mainInner x0 x1 (y 1) (y 2) = mainOuter x0 (y 1) (y 2) :=
      if_neg fun h : (y 1).val / 32 = (y 2).val / 32 => by omega
    change _ = mainInner x0 x1 (y 1) (y 2)
    rw [e]
    frame_out
  all_goals
    intro z
    show _ = mainInner x0 x1 _ _
    idx_vars z
    pointwise [k1_pay1, k1_pay2, k1_pay3, k1_pay4, k1_pay11, k1_pay12, k1_pay13, k1_pay14, k1_pay15, k1_pay16, k1_pay17]
  all_goals
    refine mainInner_diag x0 x1 _ z1 z2 ?_ ?_ ?_ ?_
  all_goals
    first
    | rfl
    | exact (Nat.zero_add _).symm
    | exact (ValueKit.rect_emb_unit_val _ _ _ _ _).trans rfl
    | exact (ValueKit.rect_emb_unit_val _ _ _ _ _).trans (Nat.zero_add _)

end Cert.Hand
-- ==== Proof.Arrays.lean ====
/- The arrays that the two launches leave, entry by entry, in terms of the arrays that they start from. -/
module

public import proofs.«01_k».proof.Proof.Blocks

@[expose] public section

set_option maxRecDepth 16384

noncomputable section

namespace Cert.Hand

open Cert.KernelIdeal Cert.KernelIdeal.Gen Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b)) (c : Dev nD)

/-- Where the blocks of the first launch lie at each of its points. -/
theorem place0 : ∀ t : Fin cfg0.N,
    win0_0.index t = ![0, 2 * t.val, 0, t.val, 0, 0] ∧ win0_1.index t = ![0, t.val, 0, 0]
      ∧ win0_2.index t = ![0, t.val, 0, 0] := by decide +kernel

/-- Where the blocks of the second launch lie at each of its points. -/
theorem place1 : ∀ t : Fin cfg1.N,
    win1_0.index t = ![t.val, 0, 1, 0, 0] ∧ win1_1.index t = ![t.val, 0, 0, 0]
      ∧ win1_2.index t = ![0, 0, 0] ∧ win1_3.index t = ![t.val, 0, 0] := by decide +kernel

/-- The first launch's array as a function of the array that it reads: at batch `b`, pooled row `i`, and positions
    `m` and `n` of that row's 32. -/
def diagArr (X : Vec Ideal S16x16x64x8x1x128 .f32) : Vec Ideal S16x8x32x32 .f32 := fun y =>
  let b : Fin 16 := y 0
  let i : Fin 8 := y 1
  let m : Fin 32 := y 2
  let n : Fin 32 := y 3
  ((if m.val / 4 = n.val / 4 then
      X (ix6 b ⟨2 * i.val, by omega⟩ ⟨8 * (m.val / 4) + m.val % 4, by omega⟩ i 0
        ⟨8 * (n.val / 4) + n.val % 4, by omega⟩) else 0)
    + X (ix6 b ⟨2 * i.val, by omega⟩ ⟨8 * (m.val / 4) + 4 + m.val % 4, by omega⟩ i 0
        ⟨8 * (n.val / 4) + 4 + n.val % 4, by omega⟩) : EReal)

/-- The first launch's whole array. -/
theorem diag_array
    (h0 : ∀ (i : Fin 8) (n : Fin 32),
      V c main_v19 (ix4 0 i 0 n) = BitVec.ofNat 32 (8 * (n.val / 4) + n.val % 4))
    (h1 : ∀ (i : Fin 8) (n : Fin 32),
      V c main_v19 (ix4 1 i 0 n) = BitVec.ofNat 32 (8 * (n.val / 4) + 4 + n.val % 4)) :
    (dat0 V c).arrAt 2 cfg0.N = diagArr (V c main_v24) := by
  refine (dat0 V c).arrAt_eq_of_covers 2 _ (by decide +kernel) fun t hf y => ?_
  blk_simp
  rw [after0_2]
  obtain ⟨p0, p1, p2⟩ := place0 t
  idx_vars y
  obtain rfl : y1 = 0 := Subsingleton.elim _ _
  have e : ((View.whole main_v25).slice (win0_2.rect t)).emb (ix4 y0 0 y2 y3) = ix4 y0 t y2 y3 := by
    blk_ext [p2]
  have w0 : ∀ n : Fin 32, iblk0 V c 1 t (ix4 0 0 0 n) = V c main_v19 (ix4 0 t 0 n) := fun n => by
    blk_ext [iblk0, p1]
  have w1 : ∀ n : Fin 32, iblk0 V c 1 t (ix4 1 0 0 n) = V c main_v19 (ix4 1 t 0 n) := fun n => by
    blk_ext [iblk0, p1]
  have r : ∀ (b : Fin 16) (s : Fin 64) (l : Fin 128),
      iblk0 V c 0 t (ix6 b 0 s 0 0 l) = V c main_v24 (ix6 b ⟨2 * t.val, by have h : t.val < 8 := t.isLt; omega⟩ s t 0 l) := fun b s l => by
    blk_ext [iblk0, p0]
  rw [e]
  refine (diag_block (iblk0 V c 0 t) (iblk0 V c 1 t) (fun n => (w0 n).trans (h0 t n))
    (fun n => (w1 n).trans (h1 t n)) y0 y2 y3).trans ?_
  rw [r, r]
  rfl

/-- The second launch's array as a function of the three that it reads. -/
def mainArr (X : Vec Ideal S16x8x2x64x1024 .f32) (D : Vec Ideal S16x8x32x32 .f32) : Vec Ideal S16x256x256 .f32 := fun y =>
  let b : Fin 16 := y 0
  let p : Fin 256 := y 1
  let q : Fin 256 := y 2
  let outer : EReal :=
    X (ix5 b ⟨p.val / 32, by omega⟩ 1 ⟨8 * (p.val / 4 % 8) + 4 + p.val % 4, by omega⟩ (rowOf 1 1 q))
      + if p.val / 4 % 8 = q.val / 4 % 8 then
          X (ix5 b ⟨p.val / 32, by omega⟩ 1 ⟨8 * (p.val / 4 % 8) + p.val % 4, by omega⟩ (rowOf 1 0 q)) else 0
  (if p.val / 32 = q.val / 32 then
      outer + D (ix4 b ⟨p.val / 32, by omega⟩ ⟨p.val % 32, by omega⟩ ⟨q.val % 32, by omega⟩)
    else outer : EReal)

/-- A block of the second launch's array is what its point makes of its input blocks. -/
theorem mainInner_eq (X : Vec Ideal S16x8x2x64x1024 .f32) (D : Vec Ideal S16x8x32x32 .f32)
    (x0 : Vec Ideal S1x8x1x64x1024 .f32) (x1 : Vec Ideal S1x8x32x32 .f32) (b : Fin 16)
    (r : ∀ i s l, x0 (ix5 0 i 0 s l) = X (ix5 b i 1 s l)) (d : ∀ i m n, x1 (ix4 0 i m n) = D (ix4 b i m n))
    (p q : Fin 256) : mainInner x0 x1 p q = mainArr X D (ix3 b p q) := by
  unfold mainInner mainOuter
  simp only [r, d]
  rfl

set_option maxHeartbeats 1000000 in
/-- The second launch's whole array. -/
theorem main_array
    (h0 : ∀ q : Fin 256, V c main_v23 (ix3 0 0 q) = BitVec.ofNat 32 (rowOf 1 1 q).val)
    (h1 : ∀ q : Fin 256, V c main_v23 (ix3 1 0 q) = BitVec.ofNat 32 (rowOf 1 0 q).val) :
    (dat1 V c).arrAt 3 cfg1.N = mainArr (V c main_v26) (V c main_v25) := by
  refine (dat1 V c).arrAt_eq_of_covers 3 _ (by decide +kernel) fun t hf y => ?_
  blk_simp
  rw [after1_3]
  obtain ⟨p0, p1, p2, p3⟩ := place1 t
  idx_vars y
  obtain rfl : y0 = 0 := Subsingleton.elim _ _
  have e : ((View.whole main_v27).slice (win1_3.rect t)).emb (ix3 0 y1 y2) = ix3 t y1 y2 := by
    blk_ext [p3]
  have w0 : ∀ q : Fin 256, iblk1 V c 2 t (ix3 0 0 q) = V c main_v23 (ix3 0 0 q) := fun q => by
    blk_ext [iblk1, p2]
  have w1 : ∀ q : Fin 256, iblk1 V c 2 t (ix3 1 0 q) = V c main_v23 (ix3 1 0 q) := fun q => by
    blk_ext [iblk1, p2]
  have r : ∀ (i : Fin 8) (s : Fin 64) (l : Fin 1024),
      iblk1 V c 0 t (ix5 0 i 0 s l) = V c main_v26 (ix5 t i 1 s l) := fun i s l => by
    blk_ext [iblk1, p0]
  have d : ∀ (i : Fin 8) (m n : Fin 32),
      iblk1 V c 1 t (ix4 0 i m n) = V c main_v25 (ix4 t i m n) := fun i m n => by
    blk_ext [iblk1, p1]
  rw [e]
  exact (main_block _ _ _ _ _ _ _ _ _ _ (iblk1 V c 0 t) (iblk1 V c 1 t) (iblk1 V c 2 t)
    (fun q => (w0 q).trans (h0 q)) (fun q => (w1 q).trans (h1 q)) (ix3 0 y1 y2)).trans
    (mainInner_eq _ _ _ _ t r d y1 y2)

end Cert.Hand
-- ==== Proof.Host.lean ====
/- The arrays that the host operations hand to the two launches, when the arguments hold the table of projectors. -/
module

public import proofs.«01_k».proof.Proof.Gen.KernelIdeal.Frame
public import proofs.«01_k».proof.Proof.Table
public import Idealize.ShloMosaic.Lib.Pipeline.ValueKit
public import Idealize.ShloMosaic.Lib.StableHlo.ReadAt

@[expose] public section

set_option maxRecDepth 16384

noncomputable section

namespace Cert.Hand

open Cert.KernelIdeal Cert.KernelIdeal.Gen Idealize.ShloMosaic Idealize.ShloMosaic.TcCoe Idealize.SL.Sem

/-- An array that holds, for each projector and output row, the image row that is taken there, and zero where none is. -/
def Rows (safe : Vec Ideal S81x256 .i32) : Prop :=
  ∀ k p, safe (ix2 k p) = BitVec.ofNat 32 (if On k p then (colOf k p).val else 0)

/-- Among `n` projectors from number `o` on, of which only the `x`-th takes a row for output row `p`, the sum of the
    column numbers is the row that this one takes. -/
theorem sum_rows {safe : Vec Ideal S81x256 .i32} (h : Rows safe) {n : ℕ} (o : ℕ) (hn : o + n ≤ 81) (p : Fin 256)
    (x : Fin n) (hx : On ⟨o + x.val, by omega⟩ p) (h' : ∀ y : Fin n, y ≠ x → ¬ On ⟨o + y.val, by omega⟩ p) :
    Finset.univ.fold IntOp.addi 0#32 (fun y : Fin n => safe (ix2 ⟨o + y.val, by omega⟩ p))
      = BitVec.ofNat 32 (colOf ⟨o + x.val, by omega⟩ p).val := by
  rw [fold_addi_single _ x fun y hy => (h _ p).trans (by rw [if_neg (h' y hy)])]
  rw [h, if_pos hx]

variable (W : Valuation τ sig (Elt Ideal))

/-- The columns of the first launch's entries of even column parity, counted from the first of their pooled row. -/
theorem words_00 (h : Rows (W ↑main_v0)) (i : Fin 8) (n : Fin 32) :
    StableHlo.after hostOps0_2 W ↑main_v19 (ix4 0 i 0 n) = BitVec.ofNat 32 (8 * (n.val / 4) + n.val % 4) := by
  after_reads_at
  after_reads_at
  have e := sum_rows h (n := 64) 1 (by omega) ⟨i.val * 32 + n.val, by omega⟩ ⟨i.val * 8 + n.val / 4, by omega⟩
    (by simp only [On]; omega) (fun y hy => by
      have : y.val ≠ i.val * 8 + n.val / 4 := fun c => hy (Fin.ext c)
      simp only [On]; omega)
  rw [e]
  have hv : (colOf ⟨1 + (i.val * 8 + n.val / 4), by omega⟩ ⟨i.val * 32 + n.val, by omega⟩).val
      = 128 * i.val + (8 * (n.val / 4) + n.val % 4) := by
    simp only [colOf, rowOf]
    rw [if_neg (by omega), if_neg (by omega)]
    simp only [Fin.val_zero]
    omega
  rw [hv]
  apply BitVec.eq_of_toNat_eq
  simp only [IntOp.subi, IntOp.muli, BitVec.toNat_sub, BitVec.toNat_mul, BitVec.toNat_ofNat]
  omega

/-- The columns of the first launch's entries of odd column parity, counted from the first of their pooled row. -/
theorem words_01 (h : Rows (W ↑main_v0)) (i : Fin 8) (n : Fin 32) :
    StableHlo.after hostOps0_2 W ↑main_v19 (ix4 1 i 0 n) = BitVec.ofNat 32 (8 * (n.val / 4) + 4 + n.val % 4) := by
  after_reads_at
  after_reads_at
  have e := sum_rows h (n := 8) 65 (by omega) ⟨i.val * 32 + n.val, by omega⟩ i
    (by simp only [On]; omega) (fun y hy => by
      have : y.val ≠ i.val := fun c => hy (Fin.ext c)
      simp only [On]; omega)
  rw [e]
  have hv : (colOf ⟨65 + i.val, by omega⟩ ⟨i.val * 32 + n.val, by omega⟩).val
      = 128 * i.val + (8 * (n.val / 4) + 4 + n.val % 4) := by
    simp only [colOf, rowOf]
    rw [if_neg (by omega), if_pos (by omega)]
    simp only [Fin.val_zero, Fin.val_one]
    omega
  rw [hv]
  apply BitVec.eq_of_toNat_eq
  simp only [IntOp.subi, IntOp.muli, BitVec.toNat_sub, BitVec.toNat_mul, BitVec.toNat_ofNat]
  omega

/-- The columns of the second launch's entries of odd row parity and odd column parity. -/
theorem words_11 (h : Rows (W ↑main_v0)) (q : Fin 256) :
    StableHlo.after hostOps0_2 W ↑main_v23 (ix3 0 0 q) = BitVec.ofNat 32 (rowOf 1 1 q).val := by
  after_reads_at
  after_reads_at
  refine (h 0 q).trans ?_
  simp [On, colOf]

/-- The columns of the second launch's entries of odd row parity and even column parity. -/
theorem words_10 (h : Rows (W ↑main_v0)) (q : Fin 256) :
    StableHlo.after hostOps0_2 W ↑main_v23 (ix3 1 0 q) = BitVec.ofNat 32 (rowOf 1 0 q).val := by
  after_reads_at
  after_reads_at
  refine (sum_rows h (n := 8) 73 (by omega) q ⟨q.val / 4 % 8, by omega⟩
    (Or.inr (Or.inr (Or.inr rfl))) (fun y hy => by
      have : y.val ≠ q.val / 4 % 8 := fun c => hy (Fin.ext c)
      simp only [On]; omega)).trans ?_
  simp only [colOf]
  rw [if_pos (by omega), if_neg (by omega)]

/-- The image as the first launch takes it, cut into pooled rows, row parities and column blocks. -/
theorem image_cut (b R : Fin 16) (s : Fin 64) (i : Fin 8) (l : Fin 128) :
    (StableHlo.after hostOps0_2 W ↑main_v24 : Vec Ideal S16x16x64x8x1x128 .f32) (ix6 b R s i 0 l)
      = (W ↑main_arg0 : Vec Ideal S16x1024x1024 .f32)
          (ix3 b ⟨R.val * 64 + s.val, by omega⟩ ⟨i.val * 128 + l.val, by omega⟩) := by
  after_reads_at

/-- The image as the second launch takes it: its rows cut into pooled rows and row parities, the odd ones read. -/
theorem image_rows (b : Fin 16) (i : Fin 8) (s : Fin 64) (l : Fin 1024) :
    (StableHlo.after hostOps1 W ↑main_v26 : Vec Ideal S16x8x2x64x1024 .f32) (ix5 b i 1 s l)
      = (W ↑main_arg0 : Vec Ideal S16x1024x1024 .f32) (ix3 b ⟨i.val * 128 + 64 + s.val, by omega⟩ l) := by
  after_reads_at

/-- The column array with zeros where the mask is not set is what the operations before the first launch start from. -/
theorem rows_of_table (hz : W ↑main_c = fun _ => 0#32)
    (h : Projects (W ↑main_arg1) (W ↑main_arg2)) : Rows (StableHlo.after hostOps0_1 W ↑main_v0) := by
  intro k p
  after_reads_at
  refine Eq.trans ?_ (safe_word h k p)
  rw [hz]
  rfl

end Cert.Hand

end
-- ==== Proof.Value.lean ====
/- The kernel's result when the arguments hold the table of projectors: the formula `pooled` in the image; and the
   kernel's run with that result. -/
module

public import proofs.«01_k».proof.Proof.Arrays
public import proofs.«01_k».proof.Proof.Host

@[expose] public section

set_option maxRecDepth 16384

noncomputable section

namespace Cert.Hand

open Cert.KernelIdeal Cert.KernelIdeal.Gen Idealize.ShloMosaic Idealize.ShloMosaic.TcCoe Idealize.SL.Sem

/-- The two launches' formulas, put together over one image, are `pooled`. -/
theorem pooled_of_arrays (A : Vec Ideal S16x1024x1024 .f32) (Y : Vec Ideal S16x16x64x8x1x128 .f32)
    (X : Vec Ideal S16x8x2x64x1024 .f32)
    (hY : ∀ (b R : Fin 16) (s : Fin 64) (i : Fin 8) (l : Fin 128), Y (ix6 b R s i 0 l)
      = A (ix3 b ⟨R.val * 64 + s.val, by omega⟩ ⟨i.val * 128 + l.val, by omega⟩))
    (hX : ∀ (b : Fin 16) (i : Fin 8) (s : Fin 64) (l : Fin 1024),
      X (ix5 b i 1 s l) = A (ix3 b ⟨i.val * 128 + 64 + s.val, by omega⟩ l))
    (b : Fin 16) (p q : Fin 256) : mainArr X (diagArr Y) (ix3 b p q) = pooled A b p q := by
  have x1 : (⟨p.val / 32 * 128 + 64 + (8 * (p.val / 4 % 8) + 4 + p.val % 4), by omega⟩ : Fin 1024) = rowOf 1 1 p :=
    Fin.ext (by simp only [rowOf, Fin.val_one]; omega)
  have x0 : (⟨p.val / 32 * 128 + 64 + (8 * (p.val / 4 % 8) + p.val % 4), by omega⟩ : Fin 1024) = rowOf 1 0 p :=
    Fin.ext (by simp only [rowOf, Fin.val_one, Fin.val_zero]; omega)
  have hd : p.val / 32 = q.val / 32 →
      diagArr Y (ix4 b ⟨p.val / 32, by omega⟩ ⟨p.val % 32, by omega⟩ ⟨q.val % 32, by omega⟩)
        = ((if p.val / 4 % 8 = q.val / 4 % 8 then A (ix3 b (rowOf 0 0 p) (rowOf 0 0 q)) else 0)
          + A (ix3 b (rowOf 0 1 p) (rowOf 0 1 q)) : EReal) := by
    intro hpq
    have c1 : (p.val % 32 / 4 = q.val % 32 / 4) = (p.val / 4 % 8 = q.val / 4 % 8) := propext (by omega)
    show ((if p.val % 32 / 4 = q.val % 32 / 4 then Y (ix6 b ⟨2 * (p.val / 32), _⟩ ⟨8 * (p.val % 32 / 4) + p.val % 32 % 4, _⟩
        ⟨p.val / 32, _⟩ 0 ⟨8 * (q.val % 32 / 4) + q.val % 32 % 4, _⟩) else 0)
      + Y (ix6 b ⟨2 * (p.val / 32), _⟩ ⟨8 * (p.val % 32 / 4) + 4 + p.val % 32 % 4, _⟩
        ⟨p.val / 32, _⟩ 0 ⟨8 * (q.val % 32 / 4) + 4 + q.val % 32 % 4, _⟩) : EReal) = _
    have r0 : (⟨2 * (p.val / 32) * 64 + (8 * (p.val % 32 / 4) + p.val % 32 % 4), by omega⟩ : Fin 1024) = rowOf 0 0 p :=
      Fin.ext (by simp only [rowOf, Fin.val_zero]; omega)
    have r1 : (⟨2 * (p.val / 32) * 64 + (8 * (p.val % 32 / 4) + 4 + p.val % 32 % 4), by omega⟩ : Fin 1024) = rowOf 0 1 p :=
      Fin.ext (by simp only [rowOf, Fin.val_zero, Fin.val_one]; omega)
    have s0 : (⟨p.val / 32 * 128 + (8 * (q.val % 32 / 4) + q.val % 32 % 4), by omega⟩ : Fin 1024) = rowOf 0 0 q :=
      Fin.ext (by simp only [rowOf, Fin.val_zero]; omega)
    have s1 : (⟨p.val / 32 * 128 + (8 * (q.val % 32 / 4) + 4 + q.val % 32 % 4), by omega⟩ : Fin 1024) = rowOf 0 1 q :=
      Fin.ext (by simp only [rowOf, Fin.val_zero, Fin.val_one]; omega)
    simp only [c1, hY, r0, r1, s0, s1]
  have ho : ∀ D : Vec Ideal S16x8x32x32 .f32, mainArr X D (ix3 b p q)
      = (if p.val / 32 = q.val / 32 then
          (A (ix3 b (rowOf 1 1 p) (rowOf 1 1 q))
            + if p.val / 4 % 8 = q.val / 4 % 8 then A (ix3 b (rowOf 1 0 p) (rowOf 1 0 q)) else 0)
            + D (ix4 b ⟨p.val / 32, by omega⟩ ⟨p.val % 32, by omega⟩ ⟨q.val % 32, by omega⟩)
        else A (ix3 b (rowOf 1 1 p) (rowOf 1 1 q))
            + if p.val / 4 % 8 = q.val / 4 % 8 then A (ix3 b (rowOf 1 0 p) (rowOf 1 0 q)) else 0 : EReal) := by
    intro D
    have e1 := hX b ⟨p.val / 32, by omega⟩ ⟨8 * (p.val / 4 % 8) + 4 + p.val % 4, by omega⟩ (rowOf 1 1 q)
    have e0 := hX b ⟨p.val / 32, by omega⟩ ⟨8 * (p.val / 4 % 8) + p.val % 4, by omega⟩ (rowOf 1 0 q)
    simp only [x1] at e1
    simp only [x0] at e0
    rw [← e1, ← e0]
    rfl
  rw [ho]
  unfold pooled
  by_cases hpq : p.val / 32 = q.val / 32
  · rw [if_pos hpq, if_pos hpq, hd hpq]
  · rw [if_neg hpq, if_neg hpq]

variable (m : (ℓ : Loc nD τ sig) → Buf (Elt Ideal) ℓ) (ρ : Dev nD → PrngReg)

/-- The kernel's result array, from arguments that hold the table of projectors. -/
theorem result (c : Dev nD)
    (h : Projects (m ((c.tc : Thread nD τ).loc main_arg1)) (m ((c.tc : Thread nD τ).loc main_arg2))) :
    W6 m ρ c (Proc.devRef .tc main_v27)
      = fun y : S16x256x256.Idx => pooled (m ((c.tc : Thread nD τ).loc main_arg0)) (y 0) (y 1) (y 2) := by
  have a0 : W2 m ρ c (Proc.devRef .tc main_arg0) = m ((c.tc : Thread nD τ).loc main_arg0) := W2_args m ρ c _ (by decide)
  have a0' : W4 m ρ c (Proc.devRef .tc main_arg0) = m ((c.tc : Thread nD τ).loc main_arg0) := W4_args m ρ c _ (by decide)
  have a1 : W1 m ρ c (Proc.devRef .tc main_arg1) = m ((c.tc : Thread nD τ).loc main_arg1) := W1_args m ρ c _ (by decide)
  have a2 : W1 m ρ c (Proc.devRef .tc main_arg2) = m ((c.tc : Thread nD τ).loc main_arg2) := W1_args m ρ c _ (by decide)
  have hz : W1 m ρ c (Proc.devRef .tc main_c) = fun _ => 0#32 := by
    funext i
    show StableHlo.after hostOps0 (W0 m ρ c) ↑main_c i = _
    after_reads_at
  have hr : Rows (W2 m ρ c ↑main_v0) := rows_of_table (W1 m ρ c) hz (by rw [a1, a2]; exact h)
  have v23 : V5 m ρ c main_v23 = V3 m ρ c main_v23 :=
    (W5_of m ρ c main_v23 (by decide)).trans (W4_of m ρ c main_v23 (by decide +kernel))
  have v25 : V5 m ρ c main_v25 = diagArr (V3 m ρ c main_v24) :=
    (W5_of m ρ c main_v25 (by decide)).trans ((W4_arr m ρ c 2).trans
      (diag_array (V3 m ρ) c (words_00 (W2 m ρ c) hr) (words_01 (W2 m ρ c) hr)))
  have v27 : W6 m ρ c (Proc.devRef .tc main_v27) = mainArr (V5 m ρ c main_v26) (V5 m ρ c main_v25) :=
    (W6_arr m ρ c 3).trans (main_array (V5 m ρ) c
      (fun q => (congrFun v23 _).trans (words_11 (W2 m ρ c) hr q))
      (fun q => (congrFun v23 _).trans (words_10 (W2 m ρ c) hr q)))
  rw [v27, v25]
  funext y
  idx_vars y
  refine pooled_of_arrays _ _ _ (fun b R s i l => ?_) (fun b i s l => ?_) y0 y1 y2
  · exact (image_cut (W2 m ρ c) b R s i l).trans (congrFun a0 _)
  · exact (image_rows (W4 m ρ c) b i s l).trans (congrFun a0' _)

end Cert.Hand

end
-- ==== Proof.Run.lean ====
/- The kernel's run, over the extended reals, with its result array. -/
module

public import proofs.«01_k».proof.Proof.Value

@[expose] public section

set_option maxRecDepth 16384

noncomputable section

namespace Cert.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- From any memory with zero counters the kernel ends with its result array at the last boundary's contents and its
    arguments unchanged. -/
theorem kernel_run : θ_run (defs (F := Ideal)) (onTc (τ := τ) (main (F := Ideal))) ⟨m, fun _ => 0, ρ⟩ (fun r => ∀ c : Dev nD,
      r.2.mem ((c.tc : Thread nD τ).loc main_v27) = W6 m ρ c (Proc.devRef .tc main_v27)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ => fun c =>
      ⟨h c _ (mem_uc main_v27 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c)⟩)

end Cert.Hand

end
-- ==== Proof.Sum.lean ====
/- The sum over the 81 projectors, in plain numbers, is the formula `pooled`. -/
module

public import proofs.«01_k».proof.Proof.Table

@[expose] public section

noncomputable section

namespace Cert.Hand

open Idealize.ShloMosaic

/-- A sum over `81` terms, cut into the four groups of projectors. -/
theorem sum_groups (f : Fin 81 → EReal) :
    ∑ k, f k = f 0 + ∑ x : Fin 64, f ⟨1 + x.val, by omega⟩ + ∑ x : Fin 8, f ⟨65 + x.val, by omega⟩
      + ∑ x : Fin 8, f ⟨73 + x.val, by omega⟩ := by
  have e : ∑ k : Fin 81, f k = ∑ k : Fin (((1 + 64) + 8) + 8), f k := rfl
  rw [e, Fin.sum_univ_add, Fin.sum_univ_add, Fin.sum_univ_add, Fin.sum_univ_one]
  rfl

/-- A sum of terms that are zero unless their number is both `a` and `b`. -/
theorem sum_both {n : ℕ} (F : Fin n → EReal) (a b : Fin n) (v : EReal)
    (h : ∀ x, F x = if x = a ∧ x = b then v else 0) : ∑ x, F x = if a = b then v else 0 := by
  simp only [h]
  by_cases hab : a = b
  · subst hab
    simp
  · rw [if_neg hab]
    refine Finset.sum_eq_zero fun x _ => if_neg fun hx => hab (hx.1.symm.trans hx.2)

/-- One projector's term at `(p, q)`: the image's entry at the rows that it takes there, where it takes both. -/
def term (A : (⟨3, ![16, 1024, 1024]⟩ : Shape).Idx → EReal) (b : Fin 16) (p q : Fin 256) (k : Fin 81) : EReal :=
  if On k p ∧ On k q then A (ix3 b (colOf k p) (colOf k q)) else 0

/-- One group of projectors: `n` of them from number `o` on, all taking rows of parity `r` and column parity `s`, each
    at the output rows that `cell` sends to it. -/
theorem sum_group (A : (⟨3, ![16, 1024, 1024]⟩ : Shape).Idx → EReal) (b : Fin 16) (p q : Fin 256) {n : ℕ} (o : ℕ)
    (hn : o + n ≤ 81) (r s : Fin 2) (cell : Fin 256 → Fin n)
    (hon : ∀ (x : Fin n) (y : Fin 256), On ⟨o + x.val, by omega⟩ y ↔ x = cell y)
    (hcol : ∀ (x : Fin n) (y : Fin 256), colOf ⟨o + x.val, by omega⟩ y = rowOf r s y) :
    ∑ x : Fin n, term A b p q ⟨o + x.val, by omega⟩
      = if cell p = cell q then A (ix3 b (rowOf r s p) (rowOf r s q)) else 0 := by
  refine sum_both _ (cell p) (cell q) _ fun x => ?_
  unfold term
  rw [hcol, hcol]
  exact if_congr (and_congr (hon x p) (hon x q)) rfl rfl

/-- The sum over all projectors. -/
theorem sum_terms (A : (⟨3, ![16, 1024, 1024]⟩ : Shape).Idx → EReal) (b : Fin 16) (p q : Fin 256) :
    ∑ k, term A b p q k = pooled A b p q := by
  have g0 : term A b p q 0 = A (ix3 b (rowOf 1 1 p) (rowOf 1 1 q)) := by
    unfold term
    rw [if_pos ⟨Or.inl rfl, Or.inl rfl⟩]
    rfl
  have g1 := sum_group A b p q (n := 64) 1 (by omega) 0 0 (fun y => ⟨y.val / 4, by omega⟩)
    (fun x y => by rw [Fin.ext_iff]; simp only [On]; omega)
    (fun x y => by simp only [colOf]; rw [if_neg (by omega), if_neg (by omega)])
  have g2 := sum_group A b p q (n := 8) 65 (by omega) 0 1 (fun y => ⟨y.val / 32, by omega⟩)
    (fun x y => by rw [Fin.ext_iff]; simp only [On]; omega)
    (fun x y => by simp only [colOf]; rw [if_neg (by omega), if_pos (by omega)])
  have g3 := sum_group A b p q (n := 8) 73 (by omega) 1 0 (fun y => ⟨y.val / 4 % 8, by omega⟩)
    (fun x y => by rw [Fin.ext_iff]; simp only [On]; omega)
    (fun x y => by simp only [colOf]; rw [if_pos (by omega), if_neg (by omega)])
  rw [sum_groups, g0, g1, g2, g3]
  simp only [Fin.mk.injEq]
  unfold pooled
  by_cases hi : p.val / 32 = q.val / 32 <;> by_cases hj : p.val / 4 % 8 = q.val / 4 % 8
  · rw [if_pos (by omega : p.val / 4 = q.val / 4)]
    simp only [hi, hj, if_true]
    abel
  · rw [if_neg (by omega : ¬ p.val / 4 = q.val / 4)]
    simp only [hi, hj, if_true, if_false]
    abel
  · rw [if_neg (by omega : ¬ p.val / 4 = q.val / 4)]
    simp only [hi, hj, if_true, if_false]
    abel
  · rw [if_neg (by omega : ¬ p.val / 4 = q.val / 4)]
    simp only [hi, hj, if_false]
    abel

end Cert.Hand

end
-- ==== Proof.Ref.lean ====
/- The reference's result, from arguments that hold the table of projectors: the formula `pooled` in the image. -/
module

public import proofs.«01_k».proof.Proof.Gen.ReferenceIdeal.Run
public import proofs.«01_k».proof.Proof.Sum
public import Idealize.ShloMosaic.Lib.Pipeline.ValueKit

@[expose] public section

set_option maxRecDepth 16384

noncomputable section

namespace Cert.Hand

open Cert.ReferenceIdeal Cert.ReferenceIdeal.Gen Idealize.ShloMosaic Idealize.ShloMosaic.TcCoe Idealize.SL.Sem

/-- The reference's gather of the image. -/
abbrev imageGather := gather_S16x1024x1024_S81x256x256x2_S16x81x256x256_0_12_n_n_12_3_1611

/-- The gather reads, at projector `k` and output place `(p, q)` of image `b`, the image's entry at the two words that
    the index array holds there, each held inside the image. -/
theorem gather_read (A : FVec Ideal S16x1024x1024 .f32) (I : IVec S81x256x256x2 32) (b : Fin 16) (k : Fin 81)
    (p q : Fin 256) (r s : Fin 1024) (hr : I (ix4 k p q 0) = BitVec.ofNat 32 r.val)
    (hs : I (ix4 k p q 1) = BitVec.ofNat 32 s.val) :
    Host.gather imageGather A I (ix4 b k p q) = A (ix3 b r s) := by
  have clamp : ∀ n : Fin 1024, min (BitVec.ofNat 32 n.val).toInt.toNat (1024 - 1) = n.val := by
    intro n
    rw [BitVec.toInt_eq_toNat_of_lt (by rw [BitVec.toNat_ofNat]; omega), BitVec.toNat_ofNat]
    omega
  have place : ∀ c : Fin 2, imageGather.siIdx (ix4 b k p q) c = ix4 k p q c := by
    intro c
    funext d
    refine Fin.ext ?_
    match d with
    | ⟨0, _⟩ => rfl
    | ⟨1, _⟩ => rfl
    | ⟨2, _⟩ => rfl
    | ⟨3, _⟩ => rfl
  unfold Host.gather
  congr 1
  funext a
  refine Fin.ext ?_
  show imageGather.start (ix4 b k p q) I a + imageGather.batchCoord (ix4 b k p q) a
    + imageGather.offCoord (ix4 b k p q) a = _
  rw [GatherDims.batchCoord_eq_zero _ _ _ List.not_mem_nil, Nat.add_zero]
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · unfold GatherDims.start
    rw [dif_neg (by decide), Nat.zero_add]
    rfl
  · rw [GatherDims.offCoord_eq_zero _ _ _ (fun h => ((GatherDims.mem_sKept _ _).mp h).1 (by decide)), Nat.add_zero]
    unfold GatherDims.start
    rw [dif_pos (by decide)]
    refine Eq.trans ?_ (clamp r)
    rw [← hr, ← place 0]
    rfl
  · rw [GatherDims.offCoord_eq_zero _ _ _ (fun h => ((GatherDims.mem_sKept _ _).mp h).1 (by decide)), Nat.add_zero]
    unfold GatherDims.start
    rw [dif_pos (by decide)]
    refine Eq.trans ?_ (clamp s)
    rw [← hs, ← place 1]
    rfl

/-- A word below the number of rows is not moved by the wrap of negative words. -/
theorem wrap_word (n : ℕ) (hn : n < 1024) :
    Scalar.select (IntOp.cmpi .slt (BitVec.ofNat 32 n) 0#32) (IntOp.addi (BitVec.ofNat 32 n) 1024#32) (BitVec.ofNat 32 n)
      = BitVec.ofNat 32 n := by
  have h : (BitVec.ofNat 32 n).slt 0#32 = false := by
    rw [Bool.eq_false_iff, ne_eq, BitVec.slt_iff_toInt_lt,
      BitVec.toInt_eq_toNat_of_lt (by rw [BitVec.toNat_ofNat]; omega), BitVec.toNat_ofNat, BitVec.toInt_zero]
    omega
  simp [Scalar.select, IntOp.cmpi, h]

/-- The reference's column array: zero where the mask is not set. -/
def safe (cols : IVec S81x256 32) (mask : IVec S81x256 1) : IVec S81x256 32 :=
  select mask cols (broadcastInDim S81x256 ![] bcast_S_S81x256 (id (constantI S_ 32 0#32)))

/-- The reference's index array: for each projector and each output place, the wrapped row and the wrapped column. -/
def places (cols : IVec S81x256 32) (mask : IVec S81x256 1) : IVec S81x256x256x2 32 :=
  concatenate S81x256x256x2 3 [⟨S81x256x256x1, (broadcastInDim S81x256x256x1 ![0, 1, 2] bcast_S81x256x256_S81x256x256x1_0_1_2 (broadcastInDim S81x256x256 ![0, 1, 2] bcast_S81x256x1_S81x256x256_0_1_2 (select (cmpi .slt (broadcastInDim S81x256x1 ![0, 1] bcast_S81x256_S81x256x1_0_1 (safe cols mask)) (broadcastInDim S81x256x1 ![] bcast_S_S81x256x1 (constantI S_ 32 0#32))) (addi (broadcastInDim S81x256x1 ![0, 1] bcast_S81x256_S81x256x1_0_1 (safe cols mask)) (broadcastInDim S81x256x1 ![] bcast_S_S81x256x1 (constantI S_ 32 1024#32))) (broadcastInDim S81x256x1 ![0, 1] bcast_S81x256_S81x256x1_0_1 (safe cols mask)))))⟩, ⟨S81x256x256x1, (broadcastInDim S81x256x256x1 ![0, 1, 2] bcast_S81x256x256_S81x256x256x1_0_1_2 (broadcastInDim S81x256x256 ![0, 1, 2] bcast_S81x1x256_S81x256x256_0_1_2 (select (cmpi .slt (broadcastInDim S81x1x256 ![0, 2] bcast_S81x256_S81x1x256_0_2 (safe cols mask)) (broadcastInDim S81x1x256 ![] bcast_S_S81x1x256 (constantI S_ 32 0#32))) (addi (broadcastInDim S81x1x256 ![0, 2] bcast_S81x256_S81x1x256_0_2 (safe cols mask)) (broadcastInDim S81x1x256 ![] bcast_S_S81x1x256 (constantI S_ 32 1024#32))) (broadcastInDim S81x1x256 ![0, 2] bcast_S81x256_S81x1x256_0_2 (safe cols mask)))))⟩] concatenates_S81x256x256x1_S81x256x256x1_S81x256x256x2_d3

/-- The reference's composed term of its three arguments. -/
def refTerm (A : FVec Ideal S16x1024x1024 .f32) (cols : IVec S81x256 32) (mask : IVec S81x256 1) :
    FVec Ideal S16x256x256 .f32 :=
  Host.reduceAdd (select (broadcastInDim S16x81x256x256 ![0, 1, 2, 3] bcast_S1x81x256x256_S16x81x256x256_0_1_2_3 (broadcastInDim S1x81x256x256 ![1, 2, 3] bcast_S81x256x256_S1x81x256x256_1_2_3 (andi (broadcastInDim S81x256x256 ![0, 1, 2] bcast_S81x256x1_S81x256x256_0_1_2 (broadcastInDim S81x256x1 ![0, 1] bcast_S81x256_S81x256x1_0_1 mask)) (broadcastInDim S81x256x256 ![0, 1, 2] bcast_S81x1x256_S81x256x256_0_1_2 (broadcastInDim S81x1x256 ![0, 2] bcast_S81x256_S81x1x256_0_2 mask))))) (Host.gather gather_S16x1024x1024_S81x256x256x2_S16x81x256x256_0_12_n_n_12_3_1611 A (places cols mask)) (broadcastInDim S16x81x256x256 ![] bcast_S_S16x81x256x256 (constant S_ .f32 0x00000000#32))) (constant S_ .f32 0x00000000#32) reducesTo_S16x81x256x256_S16x256x256_d1 h_S_

variable {A : FVec Ideal S16x1024x1024 .f32} {cols : IVec S81x256 32} {mask : IVec S81x256 1}

/-- The row or column that a projector sends an output place to: zero where the mask is not set. -/
def target (k : Fin 81) (p : Fin 256) : Fin 1024 := if On k p then colOf k p else 0

/-- The column array at a projector and an output row. -/
theorem safe_read (h : Projects cols mask) (k : Fin 81) (p : Fin 256) :
    safe cols mask (ix2 k p) = BitVec.ofNat 32 (target k p).val := by
  refine Eq.trans ?_ ((safe_word h k p).trans ?_)
  · unfold safe
    pointwise
    rfl
  · unfold target
    split <;> rfl

/-- The index array's row words. -/
theorem places_row (h : Projects cols mask) (k : Fin 81) (p q : Fin 256) :
    places cols mask (ix4 k p q 0) = BitVec.ofNat 32 (target k p).val := by
  refine Eq.trans ?_ (wrap_word _ (target k p).isLt)
  rw [← safe_read h k p]
  unfold places
  pointwise

/-- The index array's column words. -/
theorem places_column (h : Projects cols mask) (k : Fin 81) (p q : Fin 256) :
    places cols mask (ix4 k p q 1) = BitVec.ofNat 32 (target k q).val := by
  refine Eq.trans ?_ (wrap_word _ (target k q).isLt)
  rw [← safe_read h k q]
  unfold places
  pointwise

/-- The reference's result is the formula `pooled`. -/
theorem refTerm_eq (h : Projects cols mask) :
    refTerm A cols mask = fun y : S16x256x256.Idx => pooled A (y 0) (y 1) (y 2) := by
  funext y
  idx_vars y
  refine Eq.trans ?_ (sum_terms A _ _ _)
  unfold refTerm
  pointwise
  refine Finset.sum_congr rfl fun k _ => ?_
  rw [gather_read A _ _ k _ _ _ _ (places_row h k _ _) (places_column h k _ _), (h k _).1, (h k _).1]
  refine (select_bit (P := On k y1 ∧ On k y2) ?_ _).trans ?_
  · rw [Bool.decide_and]
    exact BitVec.ofBool_and_ofBool
  · unfold term
    by_cases hk : On k y1 ∧ On k y2
    · rw [if_pos hk, if_pos hk]
      unfold target
      rw [if_pos hk.1, if_pos hk.2]
    · rw [if_neg hk, if_neg hk]

end Cert.Hand

end
-- ==== Proof.lean ====
/- The pooling kernel, which reads four entries of the image for each place of its result, computes the reference's sum
   over the 81 projectors: the five claims, assembled from the modules under Proof/. The kernel's result array is
   `Cert.Hand.result` of the run `Cert.Hand.kernel_run`, the reference's is `Cert.Hand.refTerm_eq`; both are the formula
   `Cert.Hand.pooled` in the image, once the two tables are the projectors (`Cert.Hand.projects`). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Pre
public import proofs.«01_k».proof.Proof.Run
public import proofs.«01_k».proof.Proof.Ref
public import Idealize.ShloMosaic.Adequacy
public import Idealize.ShloMosaic.Init

@[expose] public section

noncomputable section

namespace Cert.Proof

open Idealize.ShloMosaic Idealize.SL.Sem

/-- The kernel over float words terminates, with its arguments unchanged and every counter at zero. -/
theorem frame_kernel : Cert.quiescent_Kernel (hKernel := Cert.Kernel.Gen.facts) :=
  fun m ρ _ => Cert.Kernel.Gen.frame m ρ

/-- So does the kernel over the extended reals. -/
theorem frame_ideal : Cert.quiescent_KernelIdeal (hKernelIdeal := Cert.KernelIdeal.Gen.facts) :=
  fun m ρ _ => Cert.KernelIdeal.Gen.frame m ρ

/-- The reference over the extended reals terminates, with its arguments unchanged; it has no counter that could move. -/
theorem frame_reference : Cert.quiescent_ReferenceIdeal (hReferenceIdeal := Cert.ReferenceIdeal.Gen.facts) :=
  fun m ρ _ => (θ_run _ _ _).mono (fun r h => ⟨fun c => (h c).2, sem_eq_zero_of_no_sems (by decide) r.2⟩)
    (Cert.ReferenceIdeal.Value.run (F := Ideal) m ρ)

/-- On equal arguments, the tables being the projectors, kernel and reference end with the same result: at place
    `(p, q)` of image `b`, the formula `pooled`. -/
theorem same_result :
    Cert.algebraic_KernelIdeal_ReferenceIdeal_pre_pooling_projectors (hKernelIdeal := Cert.KernelIdeal.Gen.facts)
      (hReferenceIdeal := Cert.ReferenceIdeal.Gen.facts) (hPre_pooling_projectors := Cert.Hand.preFacts) := by
  intro m ρ m' ρ' hpre hargs
  have hp := fun c => Cert.Hand.projects _ _ _ (hpre c)
  refine ⟨fun c y => Cert.Hand.pooled (m ((c.tc : Thread _ _).loc Cert.KernelIdeal.main_arg0)) (y 0) (y 1) (y 2), ?_, ?_⟩
  · refine (θ_run _ _ _).mono (fun r h c => ⟨(h c).1.trans ?_, (h c).2⟩) (Cert.Hand.kernel_run m ρ)
    exact Cert.Hand.result m ρ c (hp c)
  · refine (θ_run _ _ _).mono (fun r h c => ⟨(h c).1.trans ?_, (h c).2⟩) (Cert.ReferenceIdeal.Value.run (F := Ideal) m' ρ')
    rw [(hargs c).1, (hargs c).2.1, (hargs c).2.2]
    exact Cert.Hand.refTerm_eq (hp c)

/-- All the claims together; the frames under the precondition are the frames without it. -/
theorem claim : Cert.Claim := ⟨Cert.Kernel.Gen.facts, Cert.KernelIdeal.Gen.facts, Cert.ReferenceIdeal.Gen.facts,
  Cert.Hand.preFacts, frame_kernel, frame_ideal, fun m ρ _ => frame_ideal m ρ trivial, frame_reference,
  fun m ρ _ => frame_reference m ρ trivial, trivial, same_result⟩

end Cert.Proof

end
